-- ==== Defs.lean ====
def Pre_Kernel [hPre_idx_in_table : Cert.Pre_idx_in_table.Facts] (m : (ℓ : Loc Cert.Kernel.nD Cert.Kernel.τ Cert.Kernel.sig) → Buf (Elt Bits) ℓ) : Prop :=
  ∀ c : Dev Cert.Kernel.nD,
    (Cert.Pre_idx_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_idx_in_table : Cert.Pre_idx_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_table [hPre_idx_in_table : Cert.Pre_idx_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_idx_in_table : Cert.Pre_idx_in_table.Facts] (m : (ℓ : Loc Cert.Reference.nD Cert.Reference.τ Cert.Reference.sig) → Buf (Elt Bits) ℓ) : Prop :=
  ∀ c : Dev Cert.Reference.nD,
    (Cert.Pre_idx_in_table.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def quiescent_Kernel [hKernel : Cert.Kernel.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_idx_in_table [hReferenceIdeal : Cert.ReferenceIdeal.Facts] [hPre_idx_in_table : Cert.Pre_idx_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_idx_in_table : Cert.Pre_idx_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReferenceIdeal : Cert.ReferenceIdeal.Facts) (hReference : Cert.Reference.Facts) (hPre_idx_in_table : Cert.Pre_idx_in_table.Facts),
    quiescent_Kernel (hKernel := hKernel) (hPre_idx_in_table := hPre_idx_in_table)
    ∧ quiescent_KernelIdeal (hKernelIdeal := hKernelIdeal) (hPre_idx_in_table := hPre_idx_in_table)
    ∧ quiescent_ReferenceIdeal (hReferenceIdeal := hReferenceIdeal)
    ∧ quiescent_ReferenceIdeal_pre_idx_in_table (hReferenceIdeal := hReferenceIdeal) (hPre_idx_in_table := hPre_idx_in_table)
    ∧ quiescent_Reference (hReference := hReference) (hPre_idx_in_table := hPre_idx_in_table)
    ∧ preserves_Kernel_KernelIdeal
    ∧ algebraic_KernelIdeal_ReferenceIdeal (hKernelIdeal := hKernelIdeal) (hReferenceIdeal := hReferenceIdeal) (hPre_idx_in_table := hPre_idx_in_table)
    ∧ bitexact_Kernel_Reference (hKernel := hKernel) (hReference := hReference) (hPre_idx_in_table := hPre_idx_in_table)
-- ==== Pre_idx_in_table.lean ====
abbrev S3x224x224 : Shape := ⟨3, ![3, 224, 224]⟩
abbrev S224x224 : Shape := ⟨2, ![224, 224]⟩
abbrev S_ : Shape := ⟨0, ![]⟩
abbrev S100000x64 : Shape := ⟨2, ![100000, 64]⟩

class Facts : Prop where

variable [Facts]

def fn {F : FTy → Type} [FloatOps F] (main_arg0 : FVec F S3x224x224 .f32) (main_arg1 : IVec S224x224 32) (main_arg2 : IVec S_ 32) (main_arg3 : FVec F S100000x64 .f32) : IVec S_ 1 :=
  let main_c : IVec S_ 32 := constantI S_ 32 0#32
  let main_v0 : IVec S_ 1 := cmpi .sge main_arg2 main_c
  let main_c_0 : IVec S_ 32 := constantI S_ 32 100000#32
  let main_v1 : IVec S_ 1 := cmpi .slt main_arg2 main_c_0
  let main_v2 : IVec S_ 1 := andi main_v0 main_v1
  main_v2
-- ==== Kernel.lean ====
abbrev S3x224x224 : Shape := ⟨3, ![3, 224, 224]⟩
abbrev S224x224 : Shape := ⟨2, ![224, 224]⟩
abbrev S_ : Shape := ⟨0, ![]⟩
abbrev S100000x64 : Shape := ⟨2, ![100000, 64]⟩
abbrev S1 : Shape := ⟨1, ![1]⟩
abbrev S1x64 : Shape := ⟨2, ![1, 64]⟩
abbrev S64 : Shape := ⟨1, ![64]⟩

abbrev nBuf : Table → Nat
  | .hbm => 7
  | .local .scScalar .smem => 1
  | _ => 0

abbrev bufTy : (tb : Table) → Fin (nBuf tb) → BufTy
  | .hbm, ⟨0, _⟩ => ⟨S3x224x224, .f32⟩
  | .hbm, ⟨1, _⟩ => ⟨S224x224, .i32⟩
  | .hbm, ⟨2, _⟩ => ⟨S_, .i32⟩
  | .hbm, ⟨3, _⟩ => ⟨S100000x64, .f32⟩
  | .hbm, ⟨4, _⟩ => ⟨S1, .i32⟩
  | .hbm, ⟨5, _⟩ => ⟨S1x64, .f32⟩
  | .hbm, ⟨6, _⟩ => ⟨S64, .f32⟩
  | .local .scScalar .smem, ⟨0, _⟩ => ⟨S1, .i32⟩
  | _, _ => ⟨S3x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg3_scs : Ref sig .scScalar := ⟨.hbm, 3, rfl⟩
abbrev main_v0_scs : Ref sig .scScalar := ⟨.hbm, 4, rfl⟩
abbrev main_v1_scs : Ref sig .scScalar := ⟨.hbm, 5, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0_r1 : BitVec 32 := 0#32
  ![v1.toNat, 0]

def k0_chk1 (v1 : BitVec 32) : Prop :=
  (∀ a, (k0_off1 v1) a + S1x64.size a ≤ S100000x64.size a)
theorem k0_off1_inb : ∀ (v1 : BitVec 32) (k0_hw1 : k0_chk1 v1), ∀ a, (k0_off1 v1) a + S1x64.size a ≤ S100000x64.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S3x224x224 : Shape := ⟨3, ![3, 224, 224]⟩
abbrev S224x224 : Shape := ⟨2, ![224, 224]⟩
abbrev S_ : Shape := ⟨0, ![]⟩
abbrev S100000x64 : Shape := ⟨2, ![100000, 64]⟩
abbrev S1 : Shape := ⟨1, ![1]⟩
abbrev S64 : Shape := ⟨1, ![64]⟩

abbrev nBuf : Space → Nat
  | .hbm => 23
  | .vmem => 0
  | .smem => 0
  | _ => 0

abbrev bufTy : (tb : Table) → Fin (tcTables nBuf tb) → BufTy
  | .hbm, ⟨0, _⟩ => ⟨S3x224x224, .f32⟩
  | .hbm, ⟨1, _⟩ => ⟨S224x224, .i32⟩
  | .hbm, ⟨2, _⟩ => ⟨S_, .i32⟩
  | .hbm, ⟨3, _⟩ => ⟨S100000x64, .f32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1, .i1⟩
  | .hbm, ⟨14, _⟩ => ⟨S1, .i1⟩
  | .hbm, ⟨15, _⟩ => ⟨S1, .i1⟩
  | .hbm, ⟨16, _⟩ => ⟨S_, .i1⟩
  | .hbm, ⟨17, _⟩ => ⟨S_, .i1⟩
  | .hbm, ⟨18, _⟩ => ⟨S64, .f32⟩
  | .hbm, ⟨19, _⟩ => ⟨S64, .i1⟩
  | .hbm, ⟨20, _⟩ => ⟨S_, .f32⟩
  | .hbm, ⟨21, _⟩ => ⟨S64, .f32⟩
  | .hbm, ⟨22, _⟩ => ⟨S64, .f32⟩
  | _, _ => ⟨S3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_c_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c_1 : Ref sig .tc := ⟨.hbm, 10, rfl⟩
abbrev main_call0_c_2 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_c_3 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_cst : Ref sig .tc := ⟨.hbm, 20, rfl⟩
abbrev main_call0_v11 : Ref sig .tc := ⟨.hbm, 21, rfl⟩
abbrev main_v0 : Ref sig .tc := ⟨.hbm, 22, rfl⟩

abbrev nD : Nat := 1
abbrev τ : Topo := Topo.v7x

variable {F : FTy → Type} [FloatOps F]
-- ==== Proof.Body.lean ====
/-
  The lookup kernel's body on SparseCore 0's sequencer: it copies the one-word index array into its own scalar
  memory, reads the word, and copies the table's row of that number into the result array.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem takes it -/

/-- The labels of the kernels' and the pipelines' table. -/
abbrev Lab : Labels := Pipeline.Sig Λ₀ (Fin 0) fun p => (pcfgs (F := F) p).Adm
/-- The program's one SparseCore call. -/
abbrev K : SparseCore.Cfg τ sig (Lab (F := F)) 1 := sc (F := F)
/-- The kernels' table. -/
abbrev D [FloatOps F] : Defs nD τ sig (Elt F) (Lab (F := F)) := Pipeline.defs pcfgs defs₀
abbrev 𝒱₀ : Variants := Variants.none
abbrev 𝒱 : Variants := 𝒱₀.lift
abbrev v₀ : 𝒱.V := Sum.inl none

/-! ## The resources: the launch handshakes' rounds, beside the counters of local copies -/

abbrev UH : Type := URounds (GSem nD τ sig) ℕ
abbrev UU : Type := UH × Counters

local notation "𝕄" => MT nD τ sig (HIx 1) (Elt F) ℕ UU ℕ

/-- The handshakes' rounds are the left factor. -/
abbrev EH : Emb UH (MT nD τ sig (HIx 1) (Elt F) ℕ UU ℕ) := embL

/-! ## The arrays -/

-- the four memrefs that the body is called with, in the body table's spelling
local notation "wM" => (Memref.whole Cert.KernelIdeal.main_arg3_scs : Memref Cert.KernelIdeal.sig Kind.scScalar Space.hbm Cert.KernelIdeal.S100000x64 EltTy.f32)
local notation "iM" => (Memref.whole Cert.KernelIdeal.main_v0_scs : Memref Cert.KernelIdeal.sig Kind.scScalar Space.hbm Cert.KernelIdeal.S1 EltTy.i32)
local notation "oM" => (Memref.whole Cert.KernelIdeal.main_v1_scs : Memref Cert.KernelIdeal.sig Kind.scScalar Space.hbm Cert.KernelIdeal.S1x64 EltTy.f32)
local notation "sM" => (Memref.whole Cert.KernelIdeal.cc0_scratch0 : Memref Cert.KernelIdeal.sig Kind.scScalar Space.smem Cert.KernelIdeal.S1 EltTy.i32)

/-- The table, the one-word index array, the one-row result array, and a sequencer's scalar scratch. -/
abbrev wLoc (d : Dev nD) : Loc nD τ sig := (SparseCore.T d).loc main_arg3
abbrev iLoc (d : Dev nD) : Loc nD τ sig := (SparseCore.T d).loc main_v0
abbrev oLoc (d : Dev nD) : Loc nD τ sig := (SparseCore.T d).loc main_v1
abbrev sLoc (d : Dev nD) (c : Fin τ.nSC) : Loc nD τ sig := (S d c).loc cc0_scratch0

/-- The kernel's grid point at SparseCore `c`. -/
def pt (c : Fin (grid0.bound 0)) : grid0.Coords := fun | 0 => c | ⟨_ + 1, h⟩ => absurd h (Nat.not_lt.2 (Nat.le_add_left _ _))

/-- SparseCore `c`'s sequencer, for `c` in the kernel's grid. -/
abbrev core (c : Fin (grid0.bound 0)) : Fin τ.nSC := c.castLE hcore0

abbrev cellA (d : Dev nD) (c : Fin τ.nSC) : GSem nD τ sig := (S d c, .dma cc0_scoped0.sem)
abbrev cellB (d : Dev nD) (c : Fin τ.nSC) : GSem nD τ sig := (S d c, .dma cc0_scoped1.sem)

variable [FloatOps F]

/-! ## The value -/

/-- The one word of a one-word array. -/
def word (ix : IVec S1 32) : BitVec 32 := ix (ix1 ⟨0, Nat.one_pos⟩)

/-- Row `n` of the table, as an array of one row; of a number past the table, the last row. -/
def rowOf (w : FVec F S100000x64 .f32) (n : BitVec 32) : FVec F S1x64 .f32 :=
  fun j => w (ix2 ⟨min n.toNat 99999, by omega⟩ (j 1))

/-- What a sequencer reads from its scratch after the index array has been copied there: the index array's word. -/
theorem read_word (d : Dev nD) (c : Fin τ.nSC) (ix : Buf (Elt F) (iLoc d)) (fs : Buf (Elt F) (sLoc d c)) (k : S1.Idx) :
    View.readAt (Elt F) (sM).view (Rect.unit ![0] S1.size inb_S1_S1_0).toLoadRect
      (View.write (Elt F) (sM).view fs (ReadAs.same.apply (View.read (Elt F) (iM).view ix)) Finset.univ) k
      = word ix := by
  refine (congrArg (fun z => View.readAt (Elt F) (sM).view (Rect.unit ![0] S1.size inb_S1_S1_0).toLoadRect z k) (View.write_whole_univ (Val := Elt F) cc0_scratch0 fs _)).trans ?_
  show ix _ = ix _
  congr 1
  funext a
  match a with
  | ⟨0, _⟩ => exact Subsingleton.elim (α := Fin 1) _ _

/-- What the result array holds after the one-row slice of the table at the read row has been copied over it. -/
theorem write_row (w : FVec F S100000x64 .f32) (n : BitVec 32) (fo : FVec F S1x64 .f32) (o : Fin 2 → Nat) (ho : o = k0_off1 n)
    (hn : n.toNat < 100000) (hi : ∀ a, o a + S1x64.size a ≤ S100000x64.size a) (hs) :
    View.write (Elt F) (oM).view fo
      (ReadAs.same.apply (View.read (Elt F) ((wM).slice (Rect.unit (s := S100000x64) o S1x64.size hi) hs).view w)) Finset.univ
      = rowOf w n := by
  subst ho
  refine (View.write_whole_univ (Val := Elt F) main_v1_scs fo _).trans ?_
  funext j
  show w _ = w _
  congr 1
  funext a
  match a with
  | ⟨0, _⟩ =>
    refine Fin.ext ?_
    show n.toNat + 1 * (j 0).val = min n.toNat 99999
    have := idx2_lt0 j
    omega
  | ⟨1, _⟩ =>
    refine Fin.ext ?_
    show 0 + 1 * (j 1).val = (j 1).val
    omega

/-- The kernel's body, run on SparseCore `c`'s sequencer with the index array's word a row number of the table: it
    returns the table and the index array as they were, the result array at the table's row of that number, its scratch
    at some contents, and both its copy semaphores at zero. -/
theorem body_run (d : Dev nD) (c : Fin (grid0.bound 0)) (O : CellTallies nD τ sig (HIx 1)) (W : Waits sig (HIx 1))
    (w : Buf (Elt F) (wLoc d)) (ix : Buf (Elt F) (iLoc d)) (fo : Buf (Elt F) (oLoc d)) (fs : Buf (Elt F) (sLoc d (core c)))
    (hin : (word ix).toNat < 100000) :
    (iprop(Transfers.MayWaits (S d (core c)) (none : HIx 1) O
        ∗ ((wM).view.loc (S d (core c)) ↦{fullShare} w) ∗ ((iM).view.loc (S d (core c)) ↦{fullShare} ix)
        ∗ ((oM).view.loc (S d (core c)) ↦{fullShare} fo) ∗ ((sM).view.loc (S d (core c)) ↦{fullShare} fs)
        ∗ semVal (cellA d (core c)) 0 ∗ semVal (cellB d (core c)) 0 ∗ owes (S d (core c)) O W) : sProp 𝕄)
      ⊢ wp frame (wpE (defs₀ (F := F)) 𝒱₀ (S d (core c)) none) Set.univ
          (cc0__emb_body (pt c) wM (Memref.isWhole_whole _) iM (Memref.isWhole_whole _) oM (Memref.isWhole_whole _)
            sM (Memref.isWhole_whole _) cc0_scoped0 cc0_scoped1)
          fun _ => iprop(((wM).view.loc (S d (core c)) ↦{fullShare} w) ∗ ((iM).view.loc (S d (core c)) ↦{fullShare} ix)
            ∗ ((oM).view.loc (S d (core c)) ↦{fullShare} rowOf w (word ix)) ∗ (∃ f, (sM).view.loc (S d (core c)) ↦{fullShare} f)
            ∗ semVal (cellA d (core c)) 0 ∗ semVal (cellB d (core c)) 0
            ∗ ∃ W', ⌜∀ p ∈ W', p ∈ W ∨ p.2 = none⌝ ∗ owes (S d (core c)) O W') := by
  rw [cc0__emb_body_eq_skeleton]; unfold cc0__emb_body_skel
  iintro ⟨#Hmw, Hw, Hi, Ho, Hs, Ha, Hb, HO⟩
  sl_exec
  have e : body_run.sl.r d c ix fs = word ix := read_word d (core c) ix fs _
  have hchk : k0_chk1 (body_run.sl.r d c ix fs) := by
    rw [e]; intro a
    match a with
    | ⟨0, _⟩ => exact Nat.succ_le_of_lt hin
    | ⟨1, _⟩ => exact Nat.le_refl 64
  sl_exec
  have er : View.write (Elt F) (oM).view fo (body_run.sl.dma0_1 d c w ix fs hchk) Finset.univ = rowOf w (word ix) := by
    unfold body_run.sl.dma0_1
    exact write_row w (word ix) fo _ (by rw [e]) hin _ _
  rw [er]
  sl_step
  isplitl [Hw]; · iexact Hw
  isplitl [Hi]; · iexact Hi
  isplitl [Ho]; · iexact Ho
  isplitl [Hs]; · iexists _; iexact Hs
  isplitl [Ha]; · iexact Ha
  isplitl [Hb]; · iexact Hb
  iexists (insert (.dma cc0_scoped1.sem, none) (insert (.dma cc0_scoped0.sem, none) W)); isplitr
  · ipureintro
    intro p hp
    rcases Finset.mem_insert.mp hp with hp | hp
    · exact .inr (congrArg Prod.snd hp)
    rcases Finset.mem_insert.mp hp with hp | hp
    · exact .inr (congrArg Prod.snd hp)
    exact .inl hp
  · iexact HO

end Cert.Proof.Lookup

end
-- ==== Proof.Run.lean ====
/-
  The whole lookup program: the index, a scalar, becomes a one-word array; the SparseCore call copies the table's row of
  that number into a one-row array; the row becomes the result vector. Its run, over any float values: every fair
  execution ends without a fault, the four arguments as they were, the result the table's row, every semaphore at zero.
-/
module

public import proofs.«01_k».proof.Proof.Body

@[expose] public section

noncomputable section

namespace Cert.Proof.Lookup

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx

variable {F : FTy → Type}

local notation "𝕄" => MT nD τ sig (HIx 1) (Elt F) ℕ UU ℕ
local notation "wM" => (Memref.whole Cert.KernelIdeal.main_arg3_scs : Memref Cert.KernelIdeal.sig Kind.scScalar Space.hbm Cert.KernelIdeal.S100000x64 EltTy.f32)
local notation "iM" => (Memref.whole Cert.KernelIdeal.main_v0_scs : Memref Cert.KernelIdeal.sig Kind.scScalar Space.hbm Cert.KernelIdeal.S1 EltTy.i32)
local notation "oM" => (Memref.whole Cert.KernelIdeal.main_v1_scs : Memref Cert.KernelIdeal.sig Kind.scScalar Space.hbm Cert.KernelIdeal.S1x64 EltTy.f32)
local notation "sM" => (Memref.whole Cert.KernelIdeal.cc0_scratch0 : Memref Cert.KernelIdeal.sig Kind.scScalar Space.smem Cert.KernelIdeal.S1 EltTy.i32)

/-- The call's semaphores are distinct and not scoped, no array is shared between tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## The values along the program -/

/-- The table that device `d` starts with. -/
def tbl (d : Dev nD) : FVec F S100000x64 .f32 := m ((SparseCore.T d).loc main_arg3)
/-- The index that device `d` starts with. -/
def idx (d : Dev nD) : IVec S_ 32 := m ((SparseCore.T d).loc main_arg2)
/-- The index as a one-word array. -/
def idxArr (d : Dev nD) : IVec S1 32 := shapeCast S1 (idx m d) shapeCasts_S_S1
/-- The looked-up row. -/
def rowArr (d : Dev nD) : FVec F S1x64 .f32 := rowOf (tbl m d) (word (idxArr m d))
/-- The result vector: the looked-up row without its first axis. -/
def result (d : Dev nD) : FVec F S64 .f32 := shapeCast S64 (rowArr m d) shapeCasts_S1x64_S64

/-- Every device's index is the number of a row of the table. -/
def InTable : Prop := ∀ d, (word (idxArr m d)).toNat < 100000

variable [FloatOps F]

/-! ## What the call passes over and back -/

abbrev wPts (d : Dev nD) : sProp 𝕄 := wLoc d ↦{fullShare} tbl m d
abbrev iPts (d : Dev nD) : sProp 𝕄 := iLoc d ↦{fullShare} idxArr m d
abbrev oPts (d : Dev nD) (f : Buf (Elt F) (oLoc d)) : sProp 𝕄 := oLoc d ↦{fullShare} f

/-- Over go the table, the index array and the result array at whatever it holds; back come the same, the result array at
    the looked-up row. -/
def P : (K (F := F)).Pay (nD := nD) (Val := Elt F) (Name := ℕ) (U := UU) where
  st := fun _ d _ => iprop(wPts m d ∗ iPts m d ∗ ∃ f, oPts d f)
  dn := fun _ d _ => iprop(wPts m d ∗ iPts m d ∗ oPts d (rowArr m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

section Sequencer

variable (d : Dev nD)

omit [FloatOps F] in
/-- A sequencer's own semaphores are the two copy semaphores and the rest. -/
theorem ownSems0_S (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  have hA : cellA d c ∈ ownCells (S d c) := mem_ownCells.mpr ⟨rfl, by show (SemLoc.dma cc0_scoped0.sem : SemLoc sig).isScoped .scScalar = true; decide⟩
  have hB : cellB d c ∈ ownCells (S d c) := mem_ownCells.mpr ⟨rfl, by show (SemLoc.dma cc0_scoped1.sem : SemLoc sig).isScoped .scScalar = true; decide⟩
  have hne : cellB d c ≠ cellA d c := fun h =>
    (show (SemLoc.dma cc0_scoped1.sem : SemLoc sig) ≠ .dma cc0_scoped0.sem by decide) (congrArg Prod.snd h)
  unfold SparseCore.Cfg.ownSems0
  rw [SparseCore.bigSep_erase' hA, SparseCore.bigSep_erase' (Finset.mem_erase.mpr ⟨hne, hB⟩)]

omit [FloatOps F] in
/-- A sequencer's own buffers are its scratch, at some contents, and the rest. -/
theorem ownBufs_S (c : Fin τ.nSC) :
    (ownBufs (S d c) : sProp 𝕄)
      = iprop((∃ f, sLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-- The body with everything a sequencer owns at a call: what the launch theorem asks of the kernel. -/
theorem body_call (hin : InTable m) (c : Fin (grid0.bound 0)) (O : CellTallies nD τ sig (HIx 1)) (W : Waits sig (HIx 1))
    (hO : ∀ g, O g none = 0) :
    iprop(levAts (K (F := F)).L (K (F := F)).lev ∗ emp ∗ (wPts m d ∗ iPts m d ∗ ∃ f, oPts d f)
        ∗ scopedBufs (S d (core c)) ∗ scopedSems0 (S d (core c)) ∗ owes (S d (core c)) O W)
      ⊢ wp frame (wpE (defs₀ (F := F)) 𝒱₀ (S d (core c)) none) Set.univ
          (cc0__emb_body (pt c) wM (Memref.isWhole_whole _) iM (Memref.isWhole_whole _) oM (Memref.isWhole_whole _)
            sM (Memref.isWhole_whole _) cc0_scoped0 cc0_scoped1)
          fun _ => iprop((wPts m d ∗ iPts m d ∗ oPts d (rowArr m d)) ∗ scopedBufs (S d (core c)) ∗ scopedSems0 (S d (core c))
            ∗ ∃ W', ⌜∀ p ∈ W', p ∈ W ∨ p.2 = none ∨ p.2 = some (0 : Fin 1)⌝ ∗ owes (S d (core c)) O W') := by
  rw [(K (F := F)).scopedBufs_S facts d _, SparseCore.Cfg.scopedSems0_S (Val := Elt F) d _, ownSems0_S, ownBufs_S]
  iintro ⟨#Hlv, -, ⟨Hw, Hi, %fo, Ho⟩, ⟨⟨⟨%fs, Hs⟩, Hbufs⟩, Htiles⟩, ⟨⟨Ha, Hb, Hsems⟩, Htsems⟩, HO⟩
  ihave Hmw := ((K (F := F)).mayWaits_none (thr := S d (core c)) hO) $$ Hlv
  iapply (wp_wand_r Idealize.ShloMosaic.frame (wpE (defs₀ (F := F)) 𝒱₀ (S d (core c)) none) Set.univ)
  isplitl [Hw Hi Ho Hs Ha Hb HO]
  · iapply (body_run d c O W (tbl m d) (idxArr m d) fo fs (hin d))
    isplitr; · iexact Hmw
    isplitl [Hw]; · iexact Hw
    isplitl [Hi]; · iexact Hi
    isplitl [Ho]; · iexact Ho
    isplitl [Hs]; · iexact Hs
    isplitl [Ha]; · iexact Ha
    isplitl [Hb]; · iexact Hb
    iexact HO
  iintro %_ ⟨Hw, Hi, Ho, ⟨%fs', Hs⟩, Ha, Hb, %W', %hW', HO⟩
  isplitl [Hw Hi Ho]
  · isplitl [Hw]; · iexact Hw
    isplitl [Hi]; · iexact Hi
    iexact Ho
  isplitl [Hs Hbufs Htiles]
  · isplitl [Hs Hbufs]
    · isplitl [Hs]; · iexists fs'; iexact Hs
      iexact Hbufs
    iexact Htiles
  isplitl [Ha Hb Hsems Htsems]
  · isplitl [Ha Hb Hsems]
    · isplitl [Ha]; · iexact Ha
      isplitl [Hb]; · iexact Hb
      iexact Hsems
    iexact Htsems
  iexists W'; isplitr
  · ipureintro; exact fun p hp => (hW' p hp).imp_right Or.inl
  · iexact HO

end Sequencer

/-- The kernel that the call runs is the body at its four arrays. -/
theorem defs₀_scalar (c : Fin τ.nSC) :
    defs₀ (F := F) (.scScalar c) 0 ()
      = SparseCore.onCore hcore0 (fun c => cc0__emb_body (pt c) wM (Memref.isWhole_whole _) iM (Memref.isWhole_whole _)
          oM (Memref.isWhole_whole _) sM (Memref.isWhole_whole _) cc0_scoped0 cc0_scoped1) ⟨⟩ c := rfl

/-- The kernel meets what the launch theorem asks of it. -/
theorem scalarObl (hin : InTable m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body_call m d hin c O W hO

/-! ## The launch's ghost state -/

def u₀ : UU := (initOf (K (F := F)).hsCells (K (F := F)).hsToks, 1)

omit [FloatOps F] in
/-- Nothing, however often, is nothing. -/
theorem bigSep_none {I : Type} (s : Finset I) : (bigSep s fun _ => iprop(emp)) = (iprop(emp) : sProp 𝕄) := bigSep_emp_const s

/-- The launch's ghost state is the handshakes' rounds and nothing of the kernel's own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The TensorCore's part -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- The two host operations: the index to a one-word array, the row to a vector. -/
abbrev opIdx : HloOp τ sig (Elt F) := StableHlo.reshape main_arg2 main_v0 rfl shapeCasts_S_S1
abbrev opRow : HloOp τ sig (Elt F) := StableHlo.reshape main_v1 main_v2 rfl shapeCasts_S1x64_S64

/-- The TensorCore's seven arrays. -/
abbrev S7 : Finset (DevRef τ sig) := {a0', a1', a2', a3', v0', v1', v2'}

omit [FloatOps F] in
/-- The seven arrays held at a valuation, one by one. -/
theorem held_S7 (d : Dev nD) (W : Valuation τ sig (Elt F)) :
    (held (SparseCore.T d) S7 W : sProp 𝕄)
      = iprop(((SparseCore.T d).loc main_arg0 ↦{fullShare} W a0') ∗ ((SparseCore.T d).loc main_arg1 ↦{fullShare} W a1')
          ∗ ((SparseCore.T d).loc main_arg2 ↦{fullShare} W a2') ∗ (wLoc d ↦{fullShare} W a3')
          ∗ (iLoc d ↦{fullShare} W v0') ∗ (oLoc d ↦{fullShare} W v1') ∗ (SparseCore.T d).loc main_v2 ↦{fullShare} W v2') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch contents; and the contents after the call. -/
def V0 (d : Dev nD) : Valuation τ sig (Elt F) := fun b => m (d, b)
def V1 (d : Dev nD) : Valuation τ sig (Elt F) := Function.update ((opIdx (F := F)).result (V0 m d)) v1' (rowArr m d)

/-- What the TensorCore holds of its arrays at launch. -/
theorem unscoped_held (d : Dev nD) : (unscopedBufs d (fun b => m ((SparseCore.T d).loc b)) : sProp 𝕄) = held (SparseCore.T d) S7 (V0 m d) := by
  rw [held_S7]
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The host's first operation leaves every array but its result as it was. -/
theorem R0_ne (d : Dev nD) {b : DevRef τ sig} (h : b ∉ ({v0'} : Finset (DevRef τ sig))) :
    (opIdx (F := F)).result (V0 m d) b = m (d, b) := (opIdx (F := F)).result_of_not_mem (V0 m d) h
/-- The host's first operation writes the index as a one-word array. -/
theorem R0_v0 (d : Dev nD) : (opIdx (F := F)).result (V0 m d) v0' = idxArr m d :=
  ((opIdx (F := F)).result_of_mem (V0 m d) (Finset.mem_singleton_self _)).trans rfl

/-- The call changes no array but its result. -/
theorem V1_ne (d : Dev nD) {b : DevRef τ sig} (h : b ≠ v1') : V1 m d b = (opIdx (F := F)).result (V0 m d) b := Function.update_of_ne h _ _
/-- The call leaves the looked-up row in its result array. -/
theorem V1_v1 (d : Dev nD) : V1 m d v1' = rowArr m d := Function.update_self _ _ _

/-- The host's last operation leaves every array but its result as it was. -/
theorem R1_ne (d : Dev nD) {b : DevRef τ sig} (h : b ∉ ({v2'} : Finset (DevRef τ sig))) :
    (opRow (F := F)).result (V1 m d) b = V1 m d b := (opRow (F := F)).result_of_not_mem (V1 m d) h
/-- The host's last operation writes the row as a vector. -/
theorem R1_v2 (d : Dev nD) : (opRow (F := F)).result (V1 m d) v2' = result m d := by
  refine ((opRow (F := F)).result_of_mem (V1 m d) (Finset.mem_singleton_self _)).trans ?_
  show (fun i => shapeCast S64 (V1 m d v1') shapeCasts_S1x64_S64 i) = _
  rw [V1_v1]; rfl

/-- What the call hands to its one SparseCore: the table, the index array and the result array. -/
theorem st0_eq (d : Dev nD) : (bigSep Finset.univ fun c : Fin ((K (F := F)).nCore 0) => (P m).st 0 d c) = iprop(wPts m d ∗ iPts m d ∗ ∃ f, oPts d f) := by
  show (bigSep (Finset.univ : Finset (Fin 1)) fun c => _) = _
  rw [show (Finset.univ : Finset (Fin 1)) = {0} by decide, bigSep_singleton]; rfl
/-- What the call hands back from its one SparseCore: the same arrays, the row now in the result array. -/
theorem dn0_eq (d : Dev nD) : (bigSep Finset.univ fun c : Fin ((K (F := F)).nCore 0) => (P m).dn 0 d c) = iprop(wPts m d ∗ iPts m d ∗ oPts d (rowArr m d)) := by
  show (bigSep (Finset.univ : Finset (Fin 1)) fun c => _) = _
  rw [show (Finset.univ : Finset (Fin 1)) = {0} by decide, bigSep_singleton]; rfl

/-- The first host operation touches only arrays the host holds. -/
theorem hIdx : (opIdx (F := F)).bufs ⊆ S7 := show ({a2', v0'} : Finset (DevRef τ sig)) ⊆ S7 by decide
/-- The last host operation touches only arrays the host holds. -/
theorem hRow : (opRow (F := F)).bufs ⊆ S7 := show ({v1', v2'} : Finset (DevRef τ sig)) ⊆ S7 by decide

/-- What the run leaves: the four arguments as launched, and the result vector. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_v2 ↦{fullShare} result m d))

/-- The TensorCore's program: the index made an array, the call, the row made a vector. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIdx) (S := S7) hIdx (V := V0 m d)) $$ [Hb Hheld]
  · isplitl [Hb] <;> iassumption
  iintro ⟨Hb, Hheld⟩
  rw [wp_ret]; imodintro
  ihave Hh := (Entails.of_eq (held_S7 (F := F) d _)) $$ Hheld
  rw [R0_v0, R0_ne m d (b := a0') (by decide), R0_ne m d (b := a1') (by decide), R0_ne m d (b := a2') (by decide),
    R0_ne m d (b := a3') (by decide), R0_ne m d (b := v1') (by decide), R0_ne m d (b := v2') (by decide)]
  icases Hh with ⟨H0, H1, H2, Hw, Hi, Ho, Hr⟩
  iapply ((K (F := F)).wp_run (D (F := F)) 𝒱 (EH := EH) (P := P m) κ d 0) $$ [Hst Hw Hi Ho Hb H0 H1 H2 Hr Hts]
  isplitr; · iexact Hctx
  isplitl [Hst]; · iexact Hst
  isplitl [Hw Hi Ho]
  · rw [st0_eq]
    isplitl [Hw]; · iexact Hw
    isplitl [Hi]; · iexact Hi
    iexists _; iexact Ho
  iintro ⟨Hst, Hdn⟩
  ihave Hdn' := (Entails.of_eq (dn0_eq m d)) $$ Hdn
  icases Hdn' with ⟨Hw, Hi, Ho⟩
  iapply (wp_hlo_within 𝒱 (SparseCore.T d) none Set.univ (op := opRow) (S := S7) hRow (V := V1 m d)) $$ [Hb H0 H1 H2 Hw Hi Ho Hr]
  · isplitl [Hb]; · iexact Hb
    rw [held_S7, V1_v1, V1_ne m d (b := a0') (by decide), V1_ne m d (b := a1') (by decide), V1_ne m d (b := a2') (by decide),
      V1_ne m d (b := a3') (by decide), V1_ne m d (b := v0') (by decide), V1_ne m d (b := v2') (by decide),
      R0_v0, R0_ne m d (b := a0') (by decide), R0_ne m d (b := a1') (by decide), R0_ne m d (b := a2') (by decide),
      R0_ne m d (b := a3') (by decide), R0_ne m d (b := v2') (by decide)]
    isplitl [H0]; · iexact H0
    isplitl [H1]; · iexact H1
    isplitl [H2]; · iexact H2
    isplitl [Hw]; · iexact Hw
    isplitl [Hi]; · iexact Hi
    isplitl [Ho]; · iexact Ho
    iexact Hr
  iintro ⟨Hb, Hheld⟩
  ihave Hh := (Entails.of_eq (held_S7 (F := F) d _)) $$ Hheld
  rw [R1_v2, R1_ne m d (b := a0') (by decide), R1_ne m d (b := a1') (by decide), R1_ne m d (b := a2') (by decide), R1_ne m d (b := a3') (by decide),
    V1_ne m d (b := a0') (by decide), V1_ne m d (b := a1') (by decide), V1_ne m d (b := a2') (by decide), V1_ne m d (b := a3') (by decide),
    R0_ne m d (b := a0') (by decide), R0_ne m d (b := a1') (by decide), R0_ne m d (b := a2') (by decide), R0_ne m d (b := a3') (by decide)]
  icases Hh with ⟨H0, H1, H2, Hw, -, -, Hr⟩
  rw [wp_ret]; imodintro; imodintro
  isplitl [Hst]; · iexact Hst
  isplitr [Hb Hts]
  · isplitl [H0]; · iexact H0
    isplitl [H1]; · iexact H1
    isplitl [H2]; · iexact H2
    isplitl [Hw]; · iexact Hw
    iexact Hr
  isplitl [Hb] <;> iassumption

/-! ## The final memory -/

/-- What a final memory says of device `d`: the result vector, and the four arguments as launched. -/
def fq (d : Dev nD) (s' : Phys nD τ sig (Elt F)) : Prop :=
  s'.mem.mem ((SparseCore.T d).loc main_v2) = result m d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)

omit [FloatOps F] in
/-- An array owned whole is what the memory holds there. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- What the host holds at the end fixes the final memory of the result and of the arguments. -/
theorem hfin (d : Dev nD) (s' : Phys nD τ sig (Elt F)) : iprop(FIN m d ∗ SI s') ⊢ (⌜fq m d s'⌝ : sProp 𝕄) := by
  have h2 : iprop(FIN m d ∗ SI s') ⊢ (⌜s'.mem.mem ((SparseCore.T d).loc main_v2) = result m d⌝ : sProp 𝕄) := by
    iintro ⟨⟨-, -, -, -, H⟩, HSI⟩; iapply (read_whole _ _ s'); isplitl [H] <;> iassumption
  have ha0 : iprop(FIN m d ∗ SI s') ⊢ (⌜s'.mem.mem ((SparseCore.T d).loc main_arg0) = m ((SparseCore.T d).loc main_arg0)⌝ : sProp 𝕄) := by
    iintro ⟨⟨H, -⟩, HSI⟩; iapply (read_whole _ _ s'); isplitl [H] <;> iassumption
  have ha1 : iprop(FIN m d ∗ SI s') ⊢ (⌜s'.mem.mem ((SparseCore.T d).loc main_arg1) = m ((SparseCore.T d).loc main_arg1)⌝ : sProp 𝕄) := by
    iintro ⟨⟨-, H, -⟩, HSI⟩; iapply (read_whole _ _ s'); isplitl [H] <;> iassumption
  have ha2 : iprop(FIN m d ∗ SI s') ⊢ (⌜s'.mem.mem ((SparseCore.T d).loc main_arg2) = m ((SparseCore.T d).loc main_arg2)⌝ : sProp 𝕄) := by
    iintro ⟨⟨-, -, H, -⟩, HSI⟩; iapply (read_whole _ _ s'); isplitl [H] <;> iassumption
  have ha3 : iprop(FIN m d ∗ SI s') ⊢ (⌜s'.mem.mem ((SparseCore.T d).loc main_arg3) = m ((SparseCore.T d).loc main_arg3)⌝ : sProp 𝕄) := by
    iintro ⟨⟨-, -, -, H, -⟩, HSI⟩; iapply (read_whole _ _ s'); isplitl [H] <;> iassumption
  exact fun a ha => ⟨h2 a ha, ha0 a ha, ha1 a ha, ha2 a ha, ha3 a ha⟩

/-- What every final state satisfies. -/
def QC : PUnit × MemSt nD τ sig (Elt F) → Prop := fun r =>
  (∀ d : Dev nD, r.2.mem ((SparseCore.T d).loc main_v2) = result m d
    ∧ r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)) ∧ r.2.sem = fun _ => 0

/-- From any memory whose indices are row numbers, every fair execution of the program ends without a fault, with the
    result vector at the table's row, the arguments unchanged and every semaphore at zero. -/
theorem run_main [∀ e, Nonempty (Elt F e)] (hin : InTable m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hin)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
/-
  The two programs compute one value: with the index a row number of the table, the reference's wrap of negative
  indices, its range test and its clamp change nothing, and what it gathers is the row that the kernel copies.
-/
module

public import proofs.«01_k».proof.Proof.Run
public import proofs.«01_k».proof.Proof.Gen.ReferenceIdeal
public import Idealize.ShloMosaic.Lib.ReduceAll
public import Idealize.ShloMosaic.Lib.ValueLayout
public import Idealize.ShloMosaic.Lib.StableHlo.Predicate

@[expose] public section

noncomputable section

namespace Cert.Proof.Lookup

open Cert.ReferenceIdeal Cert.ReferenceIdeal.Gen
open Idealize.ShloMosaic Idealize.ShloMosaic.ValueIdx Idealize.ShloMosaic.StableHlo.Predicate

variable {F : FTy → Type} [FloatOps F]

/-- The one word of an array of no axes. -/
def scalar (n : IVec S_ 32) : BitVec 32 := n ix0

/-- The precondition says that the index is the number of a row of the table. -/
theorem scalar_lt (a : FVec F S3x224x224 .f32) (b : IVec S224x224 32) (n : IVec S_ 32) (w : FVec F S100000x64 .f32)
    (h : Cert.Pre_idx_in_table.fn a b n w = fun _ => 1#1) : (scalar n).toNat < 100000 := by
  have h0 : IntOp.andi (IntOp.cmpi .sge (n ix0) 0#32) (IntOp.cmpi .slt (n ix0) 100000#32) = 1#1 := congrFun h ix0
  unfold scalar
  generalize n ix0 = x at h0 ⊢
  have both : ∀ p q : BitVec 1, IntOp.andi p q = 1#1 → p = 1#1 ∧ q = 1#1 := by decide
  obtain ⟨hge, hlt⟩ := both _ _ h0
  unfold IntOp.cmpi at hge hlt
  simp only [ofBool_eq_one_iff, BitVec.sle, BitVec.slt, decide_eq_true_eq, BitVec.toInt_eq_toNat_cond, BitVec.toNat_ofNat] at hge hlt
  omega

/-- The index as a one-word array has the index's word. -/
theorem word_cast (n : IVec S_ 32) (h : S_.ShapeCasts S1) : word (shapeCast S1 n h) = scalar n :=
  congrArg n (Subsingleton.elim _ _)

/-- The index as the reference gathers by it: a negative one counts from the table's end. -/
def wrapped (n : IVec S_ 32) : IVec S1 32 :=
  broadcastInDim S1 ![] bcast_S_S1 (select (cmpi .slt n (constantI S_ 32 0#32)) (addi n (constantI S_ 32 100000#32)) n)

/-- The reference's value: the gathered row where the index is in the table, not-a-number elsewhere. -/
def taken (w : FVec F S100000x64 .f32) (n : IVec S_ 32) : FVec F S64 .f32 :=
  select (broadcastInDim S64 ![] bcast_S_S64
      (Host.reduce IntOp.andi (andi (cmpi .sge (wrapped n) (broadcastInDim S1 ![] bcast_S_S1 (constantI S_ 32 0#32)))
        (cmpi .sle (wrapped n) (constantI S1 32 99999#32))) (constantI S_ 1 1#1) reducesTo_S1_S_d0 h_S_))
    (Host.gather gather_S100000x64_S1_S64_0_0_n_n_0_0_164 w (wrapped n))
    (broadcastInDim S64 ![] bcast_S_S64 (constant S_ .f32 0x7FC00000#32))

/-- An index that is no negative number is not wrapped. -/
theorem wrapped_apply (n : IVec S_ 32) (h : (scalar n).toNat < 100000) (k : S1.Idx) : wrapped n k = scalar n := by
  unfold wrapped
  rw [bcast_scalar bcast_S_S1 h_S_, show Shape.Idx.first h_S_ = ix0 from eq_ix0 _]
  show (if IntOp.cmpi .slt (scalar n) 0#32 = 1 then _ else scalar n) = _
  rw [if_neg]
  intro h0
  exact absurd ((slt_iff_toNat (by omega) (by decide)).mp h0) (Nat.not_lt_zero _)

/-- The gather reads the table's row of the index's word. -/
theorem gather_apply (w : FVec F S100000x64 .f32) (i : IVec S1 32) (x : BitVec 32) (hx : x.toNat < 100000)
    (hi : ∀ k, i k = x) (j : Fin 64) :
    Host.gather gather_S100000x64_S1_S64_0_0_n_n_0_0_164 w i (ix1 j) = w (ix2 ⟨min x.toNat 99999, by omega⟩ j) := by
  unfold Host.gather
  congr 1
  funext a
  refine Fin.ext ?_
  show GatherDims.start _ _ i a + GatherDims.batchCoord _ _ a + GatherDims.offCoord _ _ a = _
  rw [GatherDims.batchCoord_eq_zero _ _ _ List.not_mem_nil, Nat.add_zero]
  match a with
  | ⟨0, _⟩ =>
    have ho : GatherDims.offCoord gather_S100000x64_S1_S64_0_0_n_n_0_0_164 (ix1 j) (0 : Fin 2) = 0 :=
      GatherDims.offCoord_eq_zero _ _ _ fun h => ((GatherDims.mem_sKept _ _).mp h).1 (List.mem_singleton.mpr rfl)
    have hs : GatherDims.start gather_S100000x64_S1_S64_0_0_n_n_0_0_164 (ix1 j) i (0 : Fin 2) = min x.toNat 99999 := by
      refine (dif_pos (show (0 : Fin 2) ∈ ([0] : List (Fin 2)) from List.mem_singleton.mpr rfl)).trans ?_
      rw [hi, toInt_eq_toNat_of_lt (by omega)]
      rfl
    exact (congrArg₂ (· + ·) hs ho).trans (Nat.add_zero _)
  | ⟨1, _⟩ =>
    have hs : GatherDims.start gather_S100000x64_S1_S64_0_0_n_n_0_0_164 (ix1 j) i (1 : Fin 2) = 0 :=
      dif_neg (show (1 : Fin 2) ∉ ([0] : List (Fin 2)) by decide)
    have ho : GatherDims.offCoord gather_S100000x64_S1_S64_0_0_n_n_0_0_164 (ix1 j) (1 : Fin 2) = j.val :=
      (dif_pos ((GatherDims.mem_sKept _ _).mpr ⟨show (1 : Fin 2) ∉ ([0] : List (Fin 2)) by decide, List.not_mem_nil⟩)).trans rfl
    exact (congrArg₂ (· + ·) hs ho).trans (Nat.zero_add _)

/-- The reference's value is the looked-up row as a vector. -/
theorem taken_eq (w : FVec F S100000x64 .f32) (n : IVec S_ 32) (h : (scalar n).toNat < 100000) (hc : (⟨2, ![1, 64]⟩ : Shape).ShapeCasts S64) :
    taken w n = shapeCast S64 (rowOf w (scalar n)) hc := by
  funext y
  obtain ⟨j, rfl⟩ : ∃ j : Fin 64, y = ix1 j := ⟨y 0, eq_ix1 y⟩
  refine Eq.trans ?_ (shapeCast_1a_a_apply (a := 64) _ hc j).symm
  have hm : broadcastInDim S64 ![] bcast_S_S64
      (Host.reduce IntOp.andi (andi (cmpi .sge (wrapped n) (broadcastInDim S1 ![] bcast_S_S1 (constantI S_ 32 0#32)))
        (cmpi .sle (wrapped n) (constantI S1 32 99999#32))) (constantI S_ 1 1#1) reducesTo_S1_S_d0 h_S_) (ix1 j) = 1#1 := by
    rw [bcast_scalar bcast_S_S64 h_S_]
    refine Host.reduce_andi_one _ _ _ _ _ rfl fun k => ?_
    show IntOp.andi (IntOp.cmpi .sge (wrapped n k) 0#32) (IntOp.cmpi .sle (wrapped n k) 99999#32) = 1#1
    rw [wrapped_apply n h, (sge_iff_toNat (by omega) (by decide)).mpr (Nat.zero_le _),
      (sle_iff_toNat (by omega) (by decide)).mpr (Nat.le_of_lt_succ h)]
    rfl
  show (if _ = 1#1 then _ else _) = _
  rw [if_pos hm]
  exact gather_apply w _ (scalar n) h (wrapped_apply n h) j

end Cert.Proof.Lookup

end
-- ==== Proof.Claims.lean ====
/-
  The claims, each from the one run of the lookup program (Proof/Run.lean), the generated runs of the references, and the
  equality of the two values (Proof/Value.lean).
-/
module

public import proofs.«01_k».proof.Proof.Value
public import proofs.«01_k».proof.Proof.Gen.Kernel
public import proofs.«01_k».proof.Proof.Gen.Reference
public import proofs.«01_k».proof.Proof.Gen.Pre_idx_in_table
public import proofs.«01_k».proof.Proof.Gen.ReferenceIdeal.Run
public import proofs.«01_k».proof.Proof.Gen.Reference.Run
public import Idealize.ShloMosaic.Lib.Quiescent

@[expose] public section

noncomputable section

namespace Cert.Proof.Lookup

open Idealize.ShloMosaic Idealize.SL.Sem

section AnyFloat

open Cert.KernelIdeal Cert.KernelIdeal.Gen

variable {F : FTy → Type} [FloatOps F] (m : (ℓ : Loc nD τ sig) → Buf (Elt F) ℓ)

/-- Where the precondition holds on every device, every index is the number of a row. -/
theorem inTable_of (h : ∀ c : Dev nD, Cert.Pre_idx_in_table.fn (F := F) (m ((c.tc : Thread nD τ).loc main_arg0))
    (m ((c.tc : Thread nD τ).loc main_arg1)) (m ((c.tc : Thread nD τ).loc main_arg2)) (m ((c.tc : Thread nD τ).loc main_arg3)) = fun _ => 1#1) :
    InTable m := fun d => by
  unfold idxArr
  rw [word_cast]
  exact scalar_lt _ _ _ _ (h d)

/-- The run's result is the reference's value of the launched table and index. -/
theorem result_eq (h : InTable m) (d : Dev nD) : taken (tbl m d) (idx m d) = result m d := by
  have hd := h d
  unfold result rowArr idxArr
  unfold idxArr at hd
  rw [word_cast] at hd ⊢
  exact taken_eq _ _ hd _

end AnyFloat

/-- Where the index is the number of a row, the kernel as printed runs to the end, leaves its arguments unchanged and every
    semaphore at zero. -/
theorem frame_kernel : Cert.quiescent_Kernel := fun m ρ h =>
  (θ_run Cert.KernelIdeal.defs _ _).mono (fun _ h => ⟨fun c => (h.1 c).2, h.2⟩) (run_main (F := Bits) m ρ (inTable_of m h))

/-- Where the index is the number of a row, the kernel over the extended reals runs to the end, leaves its arguments
    unchanged and every semaphore at zero. -/
theorem frame_kernelIdeal : Cert.quiescent_KernelIdeal := fun m ρ h =>
  (θ_run Cert.KernelIdeal.defs _ _).mono (fun _ h => ⟨fun c => (h.1 c).2, h.2⟩) (run_main (F := Ideal) m ρ (inTable_of m h))

/-- The reference over the extended reals runs and leaves its arguments unchanged; it has no semaphores. -/
theorem frame_referenceIdeal : Cert.quiescent_ReferenceIdeal := fun m ρ _ =>
  (θ_run Cert.ReferenceIdeal.defs _ _).mono (fun _ h => ⟨fun c => (h c).2, sem_eq_zero_of_no_sems rfl _⟩) (Cert.ReferenceIdeal.Value.run m ρ)

/-- Where the index is the number of a row, the reference over the extended reals runs and leaves its arguments unchanged. -/
theorem frame_referenceIdeal_in_table : Cert.quiescent_ReferenceIdeal_pre_idx_in_table := fun m ρ _ =>
  frame_referenceIdeal m ρ trivial

/-- The reference as printed runs and leaves its arguments unchanged; it has no semaphores. -/
theorem frame_reference : Cert.quiescent_Reference := fun m ρ _ =>
  (θ_run Cert.Reference.defs _ _).mono (fun _ h => ⟨fun c => (h c).2, sem_eq_zero_of_no_sems rfl _⟩) (Cert.Reference.Value.run m ρ)

/-- Where the index is the number of a row, the kernel and the reference over the extended reals end with the same vector,
    from equal arguments. -/
theorem algebraic : Cert.algebraic_KernelIdeal_ReferenceIdeal := fun m ρ m' ρ' h hm =>
  ⟨fun c => result m c,
    (θ_run Cert.KernelIdeal.defs _ _).mono (fun _ h => h.1) (run_main (F := Ideal) m ρ (inTable_of m h)),
    (θ_run Cert.ReferenceIdeal.defs _ _).mono (fun _ hr c => ⟨by
        refine (hr c).1.trans ?_
        rw [(hm c).2.2.1, (hm c).2.2.2]
        exact result_eq m (inTable_of m h) c, (hr c).2⟩) (Cert.ReferenceIdeal.Value.run m' ρ')⟩

/-- Where the index is the number of a row, the kernel and the reference as printed end with the same bits, from equal
    arguments. -/
theorem bitexact : Cert.bitexact_Kernel_Reference := fun m ρ m' ρ' h hm =>
  ⟨fun c => result (F := Bits) m c,
    (θ_run Cert.KernelIdeal.defs _ _).mono (fun _ h => h.1) (run_main (F := Bits) m ρ (inTable_of m h)),
    (θ_run Cert.Reference.defs _ _).mono (fun _ hr c => ⟨by
        refine (hr c).1.trans ?_
        rw [(hm c).2.2.1, (hm c).2.2.2]
        exact result_eq (F := Bits) m (inTable_of m h) c, (hr c).2⟩) (Cert.Reference.Value.run m' ρ')⟩

end Cert.Proof.Lookup

end
-- ==== Proof.lean ====
/-
  The whole certificate: the lookup kernel runs to the end and leaves its arguments and semaphores as they were, so do the
  references, and the kernel's result is the reference's, over the extended reals and bit for bit, wherever the index
  is the number of a row of the table.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_idx_in_table
public import proofs.«01_k».proof.Proof.Claims

@[expose] public section

noncomputable section

namespace Cert.Proof

/-- Every claim of the certificate, in the order the statement lists them; the program is its own idealization, so that
    nothing is to be shown of the step from the one to the other. -/
theorem claim : Cert.Claim :=
  ⟨Cert.Kernel.Gen.facts, Cert.KernelIdeal.Gen.facts, Cert.ReferenceIdeal.Gen.facts, Cert.Reference.Gen.facts,
    Cert.Pre_idx_in_table.Gen.facts,
    Lookup.frame_kernel, Lookup.frame_kernelIdeal, Lookup.frame_referenceIdeal, Lookup.frame_referenceIdeal_in_table,
    Lookup.frame_reference, trivial, Lookup.algebraic, Lookup.bitexact⟩

end Cert.Proof

end
